-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2160x3840 : Shape := ⟨3, ![3, 2160, 3840]⟩
abbrev S2160x3840 : Shape := ⟨2, ![2160, 3840]⟩
abbrev S3x216x3840 : Shape := ⟨3, ![3, 216, 3840]⟩
abbrev S216x3840 : Shape := ⟨2, ![216, 3840]⟩
abbrev S1x216x3840 : Shape := ⟨3, ![1, 216, 3840]⟩

abbrev nBuf : Space → Nat
  | .hbm => 2
  | .vmem => 4
  | .smem => 0
  | _ => 0

abbrev bufTy : (tb : Table) → Fin (tcTables nBuf tb) → BufTy
  | .hbm, ⟨0, _⟩ => ⟨S3x2160x3840, .i32⟩
  | .hbm, ⟨1, _⟩ => ⟨S2160x3840, .i8⟩
  | .local _ .vmem, ⟨0, _⟩ => ⟨S3x216x3840, .i32⟩
  | .local _ .vmem, ⟨1, _⟩ => ⟨S3x216x3840, .i32⟩
  | .local _ .vmem, ⟨2, _⟩ => ⟨S216x3840, .i8⟩
  | .local _ .vmem, ⟨3, _⟩ => ⟨S216x3840, .i8⟩
  | _, _ => ⟨S3x2160x3840, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x216x3840 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S216x3840 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S3x2160x3840 : Shape := ⟨3, ![3, 2160, 3840]⟩
abbrev S8x3 : Shape := ⟨2, ![8, 3]⟩
abbrev S8 : Shape := ⟨1, ![8]⟩
abbrev S2160x3840x3 : Shape := ⟨3, ![2160, 3840, 3]⟩
abbrev S2160x3840x1 : Shape := ⟨3, ![2160, 3840, 1]⟩
abbrev S2160x3840 : Shape := ⟨2, ![2160, 3840]⟩
abbrev S_ : Shape := ⟨0, ![]⟩
abbrev S8x1 : Shape := ⟨2, ![8, 1]⟩
abbrev S1x1x8 : Shape := ⟨3, ![1, 1, 8]⟩
abbrev S2160x3840x8 : Shape := ⟨3, ![2160, 3840, 8]⟩

abbrev nBuf : Space → Nat
  | .hbm => 44
  | .vmem => 0
  | .smem => 0
  | _ => 0

abbrev bufTy : (tb : Table) → Fin (tcTables nBuf tb) → BufTy
  | .hbm, ⟨0, _⟩ => ⟨S3x2160x3840, .i32⟩
  | .hbm, ⟨1, _⟩ => ⟨S8x3, .i32⟩
  | .hbm, ⟨2, _⟩ => ⟨S8, .i32⟩
  | .hbm, ⟨3, _⟩ => ⟨S2160x3840x3, .i32⟩
  | .hbm, ⟨4, _⟩ => ⟨S2160x3840x1, .i32⟩
  | .hbm, ⟨5, _⟩ => ⟨S2160x3840, .i32⟩
  | .hbm, ⟨6, _⟩ => ⟨S_, .i32⟩
  | .hbm, ⟨7, _⟩ => ⟨S2160x3840, .i32⟩
  | .hbm, ⟨8, _⟩ => ⟨S2160x3840, .i32⟩
  | .hbm, ⟨9, _⟩ => ⟨S2160x3840x1, .i32⟩
  | .hbm, ⟨10, _⟩ => ⟨S2160x3840, .i32⟩
  | .hbm, ⟨11, _⟩ => ⟨S_, .i32⟩
  | .hbm, ⟨12, _⟩ => ⟨S2160x3840, .i32⟩
  | .hbm, ⟨13, _⟩ => ⟨S2160x3840, .i32⟩
  | .hbm, ⟨14, _⟩ => ⟨S2160x3840, .i32⟩
  | .hbm, ⟨15, _⟩ => ⟨S2160x3840x1, .i32⟩
  | .hbm, ⟨16, _⟩ => ⟨S2160x3840, .i32⟩
  | .hbm, ⟨17, _⟩ => ⟨S2160x3840, .i32⟩
  | .hbm, ⟨18, _⟩ => ⟨S8x1, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8x1, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S8x1, .i32⟩
  | .hbm, ⟨30, _⟩ => ⟨S8, .i32⟩
  | .hbm, ⟨31, _⟩ => ⟨S8, .i32⟩
  | .hbm, ⟨32, _⟩ => ⟨S2160x3840x1, .i32⟩
  | .hbm, ⟨33, _⟩ => ⟨S1x1x8, .i32⟩
  | .hbm, ⟨34, _⟩ => ⟨S2160x3840x8, .i32⟩
  | .hbm, ⟨35, _⟩ => ⟨S2160x3840x8, .i32⟩
  | .hbm, ⟨36, _⟩ => ⟨S2160x3840x8, .i1⟩
  | .hbm, ⟨37, _⟩ => ⟨S2160x3840x8, .i32⟩
  | .hbm, ⟨38, _⟩ => ⟨S1x1x8, .i32⟩
  | .hbm, ⟨39, _⟩ => ⟨S2160x3840x8, .i32⟩
  | .hbm, ⟨40, _⟩ => ⟨S2160x3840x8, .i32⟩
  | .hbm, ⟨41, _⟩ => ⟨S_, .i32⟩
  | .hbm, ⟨42, _⟩ => ⟨S2160x3840, .i32⟩
  | .hbm, ⟨43, _⟩ => ⟨S2160x3840, .i8⟩
  | _, _ => ⟨S3x2160x3840, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_5 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.Palette.lean ====
/-
  The lookup at one pixel, as functions of words: the packed key of three channels, the class id of a key, and
  the two ways in which programs compute that id, a chain of selections and a sum of matches.
-/
module

public import Idealize.ShloMosaic.Lib.Pointwise

@[expose] public section

noncomputable section

namespace Cert.Palette

open Idealize.ShloMosaic

/-- The packed key of a pixel: red in bits 16 and up, green in bits 8 and up, blue below, joined by "or". -/
def key (r g b : BitVec 32) : BitVec 32 := (r <<< 16 ||| g <<< 8) ||| b

/-- The class id of a key: the position of the key in the palette, 0 for a key that the palette does not hold. -/
def classOf (k : BitVec 32) : BitVec 32 :=
  if k = 8388608#32 then 1#32
  else if k = 8405120#32 then 2#32
  else if k = 12583104#32 then 3#32
  else if k = 32768#32 then 4#32
  else if k = 8421376#32 then 5#32
  else if k = 4210688#32 then 6#32
  else if k = 4194432#32 then 7#32
  else 0#32

/-- The class id of a pixel as the byte that is stored. -/
def pixel (r g b : BitVec 32) : BitVec 8 := (classOf (key r g b)).setWidth 8

/-- A shift left by an amount below the word's width is the bit vector's, on every unit. -/
theorem shli_of_lt (u : ArithUnit) (x y : BitVec 32) (h : y.toNat < 32) : IntOp.shli u x y = x <<< y.toNat := by
  unfold IntOp.shli
  rw [if_pos h]
  rfl

/-- The key as the programs compute it, on every unit. -/
theorem key_eq (u : ArithUnit) (r g b : BitVec 32) :
    IntOp.ori (IntOp.ori (IntOp.shli u r 16#32) (IntOp.shli u g 8#32)) b = key r g b := by
  rw [shli_of_lt u r _ (by decide), shli_of_lt u g _ (by decide)]
  rfl

/-- A selection by an equality of words is the conditional on that equality. -/
theorem select_eq (k c x y : BitVec 32) :
    Scalar.select (IntOp.cmpi .eq k c) x y = if k = c then x else y := by
  by_cases h : k = c
  · subst h; simp [Scalar.select, IntOp.cmpi]
  · have hb : (k == c) = false := beq_eq_false_iff_ne.mpr h
    simp [Scalar.select, IntOp.cmpi, h, hb]

/-- The chain of selections, the last palette entry decided first, is the class id: the entries are distinct, so
    the order in which they are tried does not matter. -/
theorem chain_eq (k : BitVec 32) :
    (if k = 4194432#32 then 7#32 else if k = 4210688#32 then 6#32 else if k = 8421376#32 then 5#32
      else if k = 32768#32 then 4#32 else if k = 12583104#32 then 3#32 else if k = 8405120#32 then 2#32
      else if k = 8388608#32 then 1#32 else 0#32) = classOf k := by
  unfold classOf
  by_cases h7 : k = 4194432#32
  · subst h7; rfl
  by_cases h6 : k = 4210688#32
  · subst h6; rfl
  by_cases h5 : k = 8421376#32
  · subst h5; rfl
  by_cases h4 : k = 32768#32
  · subst h4; rfl
  by_cases h3 : k = 12583104#32
  · subst h3; rfl
  by_cases h2 : k = 8405120#32
  · subst h2; rfl
  by_cases h1 : k = 8388608#32
  · subst h1; rfl
  simp only [if_neg h7, if_neg h6, if_neg h5, if_neg h4, if_neg h3, if_neg h2, if_neg h1]

/-- One term of the sum of matches: the bit that says whether the key is the palette's entry, times the class id. -/
theorem term_eq (k p c : BitVec 32) :
    IntOp.muli ((IntOp.cmpi .eq k p).setWidth 32) c = if k = p then c else 0#32 := by
  by_cases h : k = p
  · subst h; simp [IntOp.cmpi, IntOp.muli]
  · have hb : (k == p) = false := beq_eq_false_iff_ne.mpr h
    simp [IntOp.cmpi, IntOp.muli, h, hb]

/-- The sum over the palette of the class ids of the entries that match, at most one of which does, is the class id. -/
theorem sum_eq (k : BitVec 32) :
    (if k = 0#32 then 0#32 else 0#32) + ((if k = 8388608#32 then 1#32 else 0#32) + ((if k = 8405120#32 then 2#32 else 0#32)
      + ((if k = 12583104#32 then 3#32 else 0#32) + ((if k = 32768#32 then 4#32 else 0#32)
      + ((if k = 8421376#32 then 5#32 else 0#32) + ((if k = 4210688#32 then 6#32 else 0#32)
      + ((if k = 4194432#32 then 7#32 else 0#32) + 0#32))))))) = classOf k := by
  unfold classOf
  by_cases h7 : k = 4194432#32
  · subst h7; rfl
  by_cases h6 : k = 4210688#32
  · subst h6; rfl
  by_cases h5 : k = 8421376#32
  · subst h5; rfl
  by_cases h4 : k = 32768#32
  · subst h4; rfl
  by_cases h3 : k = 12583104#32
  · subst h3; rfl
  by_cases h2 : k = 8405120#32
  · subst h2; rfl
  by_cases h1 : k = 8388608#32
  · subst h1; rfl
  simp only [if_neg h7, if_neg h6, if_neg h5, if_neg h4, if_neg h3, if_neg h2, if_neg h1, ite_self]
  rfl

end Cert.Palette

end
-- ==== Proof.KernelValue.lean ====
/-
  What the kernel's result array holds: at every row and column the byte of the class id of the argument's three
  channels there. First one block at one pixel, then the array after the run.
-/
module

public import proofs.«01_k».proof.Proof.Gen.KernelIdeal.Value
public import proofs.«01_k».proof.Proof.Palette
public import Idealize.ShloMosaic.Lib.Pipeline.ValueKit
public import Idealize.ShloMosaic.Lib.Pointwise

@[expose] public section

set_option maxRecDepth 16384

noncomputable section

namespace Cert.KernelIdeal.Lookup

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The image of class ids of an image of three channels. -/
def classes (x : IVec S3x2160x3840 32) : IVec S2160x3840 8 := fun i =>
  Palette.pixel (x (ix3 0 (i 0) (i 1))) (x (ix3 1 (i 0) (i 1))) (x (ix3 2 (i 0) (i 1)))

/-- What the body stores, at one pixel of the block: the class id of the block's three channels there. -/
theorem block_apply (x : Vec F S3x216x3840 .i32) (a : Fin 216) (b : Fin 3840) :
    out0_1 x (ix2 a b) = Palette.pixel (x (ix3 0 a b)) (x (ix3 1 a b)) (x (ix3 2 a b)) := by
  frame_out
  unfold_payloads
  pointwise
  simp only [Palette.key_eq, Palette.select_eq]
  exact congrArg (BitVec.setWidth 8) (Palette.chain_eq _)

/-- The block indices at a grid point: both windows take the point's rows, all columns, the argument's all channels. -/
theorem index_facts : ∀ t : Fin grid0.N,
    win0_0.index t = ![0, t.val, 0] ∧ win0_1.index t = ![t.val, 0] := by decide +kernel

/-- The result array after the run is the image of class ids of the argument: the ten blocks tile it. -/
theorem final (c : Dev nD) : (dats m 0 c).arrAt 1 cfg0.N = classes (m ((c : Thread nD τ).loc main_arg0)) := by
  refine (dats m 0 c).arrAt_eq_of_covers 1 _ (by decide +kernel) fun t hf y => ?_
  blk_simp
  rw [after0_1]
  obtain ⟨a, b, rfl⟩ : ∃ (a : Fin 216) (b : Fin 3840), y = ix2 a b := ⟨y 0, y 1, eq_ix2 y⟩
  refine (block_apply _ a b).trans ?_
  unfold classes
  congr 1 <;> blk_ext [iblk, V, index_facts t]

/-- The run of the kernel: the result array, the argument unchanged. -/
theorem run (ρ : Dev nD → PrngReg) :
    θ_run defs (onTc (τ := τ) (main (F := F))) ⟨m, fun _ => 0, ρ⟩ fun r => ∀ c : Dev nD,
      r.2.mem ((c.tc : Thread nD τ).loc main_v0) = classes (m ((c.tc : Thread nD τ).loc main_arg0))
      ∧ r.2.mem ((c.tc : Thread nD τ).loc main_arg0) = m ((c.tc : Thread nD τ).loc main_arg0) :=
  (θ_run defs _ _).mono (fun _ h c => ⟨(h c).1.trans (final m c), (h c).2⟩) (Value.run_blocks m ρ)

end Cert.KernelIdeal.Lookup

end
-- ==== Proof.ReferenceValue.lean ====
/-
  What the reference's composed term is at one pixel: the byte of the class id of the argument's three channels there.
-/
module

public import proofs.«01_k».proof.Proof.Gen.ReferenceIdeal.Run
public import proofs.«01_k».proof.Proof.Palette
public import Idealize.ShloMosaic.Lib.Pointwise

@[expose] public section

set_option maxRecDepth 16384

noncomputable section

namespace Cert.ReferenceIdeal.Lookup

open Cert.ReferenceIdeal Cert.ReferenceIdeal.Gen Idealize.ShloMosaic Idealize.ShloMosaic.TcCoe Idealize.SL.Sem

variable {F : FTy → Type} [FloatOps F]

/-- The image of class ids of an image of three channels. -/
def classes (x : IVec S3x2160x3840 32) : IVec S2160x3840 8 := fun i =>
  Palette.pixel (x (ix3 0 (i 0) (i 1))) (x (ix3 1 (i 0) (i 1))) (x (ix3 2 (i 0) (i 1)))

/-- A channel of the image as the reference takes it: transposed to the last axis, sliced, the unit axis dropped. -/
theorem channels_apply (x : IVec S3x2160x3840 32) (a : Fin 2160) (b : Fin 3840) :
    shapeCast S2160x3840 (extractStridedSlice S2160x3840x1 ![0, 0, 0] (transpose S2160x3840x3 [1, 2, 0] x transposes_S3x2160x3840_S2160x3840x3_1_2_0) slices_S2160x3840x3_S2160x3840x1_0_0_0) shapeCasts_S2160x3840x1_S2160x3840 (ix2 a b) = x (ix3 0 a b)
    ∧ shapeCast S2160x3840 (extractStridedSlice S2160x3840x1 ![0, 0, 1] (transpose S2160x3840x3 [1, 2, 0] x transposes_S3x2160x3840_S2160x3840x3_1_2_0) slices_S2160x3840x3_S2160x3840x1_0_0_1) shapeCasts_S2160x3840x1_S2160x3840 (ix2 a b) = x (ix3 1 a b)
    ∧ shapeCast S2160x3840 (extractStridedSlice S2160x3840x1 ![0, 0, 2] (transpose S2160x3840x3 [1, 2, 0] x transposes_S3x2160x3840_S2160x3840x3_1_2_0) slices_S2160x3840x3_S2160x3840x1_0_0_2) shapeCasts_S2160x3840x1_S2160x3840 (ix2 a b) = x (ix3 2 a b) := by
  refine ⟨?_, ?_, ?_⟩ <;> pointwise <;> rfl

/-- The packed keys of the image's pixels. -/
def keys (x : IVec S3x2160x3840 32) : IVec S2160x3840 32 :=
  ori (ori
    (Host.shli (shapeCast S2160x3840 (extractStridedSlice S2160x3840x1 ![0, 0, 0] (transpose S2160x3840x3 [1, 2, 0] x transposes_S3x2160x3840_S2160x3840x3_1_2_0) slices_S2160x3840x3_S2160x3840x1_0_0_0) shapeCasts_S2160x3840x1_S2160x3840) (broadcastInDim S2160x3840 ![] bcast_S_S2160x3840 (constantI S_ 32 16#32)))
    (Host.shli (shapeCast S2160x3840 (extractStridedSlice S2160x3840x1 ![0, 0, 1] (transpose S2160x3840x3 [1, 2, 0] x transposes_S3x2160x3840_S2160x3840x3_1_2_0) slices_S2160x3840x3_S2160x3840x1_0_0_1) shapeCasts_S2160x3840x1_S2160x3840) (broadcastInDim S2160x3840 ![] bcast_S_S2160x3840 (constantI S_ 32 8#32))))
    (shapeCast S2160x3840 (extractStridedSlice S2160x3840x1 ![0, 0, 2] (transpose S2160x3840x3 [1, 2, 0] x transposes_S3x2160x3840_S2160x3840x3_1_2_0) slices_S2160x3840x3_S2160x3840x1_0_0_2) shapeCasts_S2160x3840x1_S2160x3840)

/-- The packed keys of the palette's eight colours. -/
def paletteKeys : IVec S8 32 :=
  ori (ori
    (Host.shli (shapeCast S8 (extractStridedSlice S8x1 ![0, 0] (fun i => lit0 (S8x3.rowMajor i)) slices_S8x3_S8x1_0_0) shapeCasts_S8x1_S8) (broadcastInDim S8 ![] bcast_S_S8 (constantI S_ 32 16#32)))
    (Host.shli (shapeCast S8 (extractStridedSlice S8x1 ![0, 1] (fun i => lit0 (S8x3.rowMajor i)) slices_S8x3_S8x1_0_1) shapeCasts_S8x1_S8) (broadcastInDim S8 ![] bcast_S_S8 (constantI S_ 32 8#32))))
    (shapeCast S8 (extractStridedSlice S8x1 ![0, 2] (fun i => lit0 (S8x3.rowMajor i)) slices_S8x3_S8x1_0_2) shapeCasts_S8x1_S8)

/-- The class ids, one per colour of the palette. -/
def classIds : IVec S8 32 := fun i => lit1 (S8.rowMajor i)

/-- At every pixel and palette entry, whether the two keys are equal, as a word, times the entry's class id. -/
def terms (x : IVec S3x2160x3840 32) : IVec S2160x3840x8 32 :=
  muli (extui 32 (cmpi .eq
      (broadcastInDim S2160x3840x8 ![0, 1, 2] bcast_S2160x3840x1_S2160x3840x8_0_1_2 (broadcastInDim S2160x3840x1 ![0, 1] bcast_S2160x3840_S2160x3840x1_0_1 (keys x)))
      (broadcastInDim S2160x3840x8 ![0, 1, 2] bcast_S1x1x8_S2160x3840x8_0_1_2 (broadcastInDim S1x1x8 ![2] bcast_S8_S1x1x8_2 paletteKeys))) natLt_1_32)
    (broadcastInDim S2160x3840x8 ![0, 1, 2] bcast_S1x1x8_S2160x3840x8_0_1_2 (broadcastInDim S1x1x8 ![2] bcast_S8_S1x1x8_2 classIds))

/-- The key at a pixel. -/
theorem keys_apply (x : IVec S3x2160x3840 32) (a : Fin 2160) (b : Fin 3840) :
    keys x (ix2 a b) = Palette.key (x (ix3 0 a b)) (x (ix3 1 a b)) (x (ix3 2 a b)) := by
  rw [← Palette.key_eq .host, ← (channels_apply x a b).1, ← (channels_apply x a b).2.1, ← (channels_apply x a b).2.2]
  rfl

/-- The keys and the class ids of the palette, entry by entry. -/
theorem palette_apply : (∀ n : Fin 8, paletteKeys (ix1 n) =
      ![0#32, 8388608#32, 8405120#32, 12583104#32, 32768#32, 8421376#32, 4210688#32, 4194432#32] n)
    ∧ ∀ n : Fin 8, classIds (ix1 n) = BitVec.ofNat 32 n.val := by
  constructor
  · intro n
    fin_cases n <;> decide +kernel
  · intro n
    fin_cases n <;> decide +kernel

/-- A term of the sum at a pixel and a palette entry. -/
theorem terms_apply (x : IVec S3x2160x3840 32) (a : Fin 2160) (b : Fin 3840) (n : Fin 8) :
    terms x (ix3 a b n) = if keys x (ix2 a b) = paletteKeys (ix1 n) then classIds (ix1 n) else 0#32 := by
  rw [← Palette.term_eq]
  unfold terms
  pointwise

/-- A sum of words over the eight palette entries, written out. -/
theorem fold_eight (f : Fin 8 → BitVec 32) :
    (Finset.univ : Finset (Fin 8)).fold IntOp.addi 0#32 f
      = f 0 + (f 1 + (f 2 + (f 3 + (f 4 + (f 5 + (f 6 + (f 7 + 0#32))))))) := rfl

/-- The sum over the palette at a pixel is the class id of the pixel's key. -/
theorem sum_apply (x : IVec S3x2160x3840 32) (a : Fin 2160) (b : Fin 3840) :
    Host.reduce IntOp.addi (terms x) (constantI S_ 32 0#32) reducesTo_S2160x3840x8_S2160x3840_d2 h_S_ (ix2 a b)
      = Palette.classOf (keys x (ix2 a b)) := by
  have hr : S2160x3840x8.Reduces [2] S2160x3840 := by decide
  rw [Host.reduce_eq_fold_single IntOp.addi (terms x) _ _ hr]
  have hl : ∀ n : Fin 8, (terms x ∘ hr.lift (ix2 a b)) n = terms x (ix3 a b n) := by
    intro n
    refine congrArg (terms x) ?_
    funext c
    fin_cases c <;> rfl
  rw [← Palette.sum_eq]
  refine (fold_eight _).trans ?_
  simp only [hl, terms_apply, palette_apply.1, palette_apply.2]
  rfl

/-- The run of the reference: the result array, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = classes (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext i
  idx_vars i
  refine (congrArg (BitVec.setWidth 8) (sum_apply (m ((c.tc : Thread nD τ).loc main_arg0)) i0 i1)).trans ?_
  rw [keys_apply]
  rfl

end Cert.ReferenceIdeal.Lookup

end
-- ==== Proof.lean ====
/-
  The claims, assembled: the frames of the kernel, of its ideal reading and of the reference; and that the kernel and
  the reference both end with the image of class ids of the same argument.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Gen.frame m ρ

/-- The ideal kernel's frame. -/
theorem frame_kernelIdeal : Cert.quiescent_KernelIdeal := fun m ρ _ => Cert.KernelIdeal.Gen.frame m ρ

/-- The reference's frame: its run leaves the argument, and it has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Lookup.run (F := Ideal) m ρ)

/-- Kernel and reference, from equal arguments, end with equal images of class ids. -/
theorem algebraic : Cert.algebraic_KernelIdeal_ReferenceIdeal := by
  intro m ρ m' ρ' _ hagree
  refine ⟨fun c => Cert.KernelIdeal.Lookup.classes (m ((c.tc : Thread Cert.KernelIdeal.nD Cert.KernelIdeal.τ).loc Cert.KernelIdeal.main_arg0)),
    Cert.KernelIdeal.Lookup.run (F := Ideal) m ρ, ?_⟩
  refine (θ_run Cert.ReferenceIdeal.defs _ _).mono (fun _ h c => ⟨(h c).1.trans ?_, (h c).2⟩)
    (Cert.ReferenceIdeal.Lookup.run (F := Ideal) m' ρ')
  exact congrArg Cert.ReferenceIdeal.Lookup.classes (hagree c)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
